-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_is_permutation [hPre_is_permutation : Cert.Pre_is_permutation.Facts] (m : (ℓ : Loc Cert.KernelIdeal.nD Cert.KernelIdeal.τ Cert.KernelIdeal.sig) → Buf (Elt Ideal) ℓ) : Prop :=
  ∀ c : Dev Cert.KernelIdeal.nD,
    (Cert.Pre_is_permutation.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_is_permutation [hPre_is_permutation : Cert.Pre_is_permutation.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_is_permutation.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_is_permutation [hKernelIdeal : Cert.KernelIdeal.Facts] [hPre_is_permutation : Cert.Pre_is_permutation.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_is_permutation m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_is_permutation [hReferenceIdeal : Cert.ReferenceIdeal.Facts] [hPre_is_permutation : Cert.Pre_is_permutation.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_is_permutation m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_is_permutation [hKernelIdeal : Cert.KernelIdeal.Facts] [hReferenceIdeal : Cert.ReferenceIdeal.Facts] [hPre_is_permutation : Cert.Pre_is_permutation.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_is_permutation m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_is_permutation : Cert.Pre_is_permutation.Facts),
    quiescent_Kernel (hKernel := hKernel)
    ∧ quiescent_KernelIdeal (hKernelIdeal := hKernelIdeal)
    ∧ quiescent_KernelIdeal_pre_is_permutation (hKernelIdeal := hKernelIdeal) (hPre_is_permutation := hPre_is_permutation)
    ∧ quiescent_ReferenceIdeal (hReferenceIdeal := hReferenceIdeal)
    ∧ quiescent_ReferenceIdeal_pre_is_permutation (hReferenceIdeal := hReferenceIdeal) (hPre_is_permutation := hPre_is_permutation)
    ∧ preserves_Kernel_KernelIdeal
    ∧ algebraic_KernelIdeal_ReferenceIdeal_pre_is_permutation (hKernelIdeal := hKernelIdeal) (hReferenceIdeal := hReferenceIdeal) (hPre_is_permutation := hPre_is_permutation)
-- ==== Pre_is_permutation.lean ====
abbrev S8192x1024 : Shape := ⟨2, ![8192, 1024]⟩
abbrev S512x2048 : Shape := ⟨2, ![512, 2048]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩

class Facts : Prop where
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024 : S_.BroadcastsInDim S1024 (![] : Fin 0 → Fin S1024.rank)
  reducesTo_S1024_S_d0 : S1024.ReducesTo [0] S_
  h_S_ : 0 < S_.numel
  reducesTo_S1024x1024_S_d0_1 : S1024x1024.ReducesTo [0, 1] S_

variable [Facts]

def fn {F : FTy → Type} [FloatOps F] (main_arg0 : FVec F S8192x1024 .f32) (main_arg1 : FVec F S512x2048 .f32) (main_arg2 : FVec F S2048 .f32) (main_arg3 : FVec F S2048x1024 .f32) (main_arg4 : FVec F S1024 .f32) (main_arg5 : IVec S1024 32) : IVec S_ 1 :=
  let main_v0 : IVec S1024 32 := iotaInDim S1024 32 0
  let main_v1 : IVec S1024x1 32 := broadcastInDim S1024x1 ![0] bcast_S1024_S1024x1_0 main_arg5
  let main_v2 : IVec S1x1024 32 := broadcastInDim S1x1024 ![1] bcast_S1024_S1x1024_1 main_arg5
  let main_v3 : IVec S1024x1024 32 := broadcastInDim S1024x1024 ![0, 1] bcast_S1024x1_S1024x1024_0_1 main_v1
  let main_v4 : IVec S1024x1024 32 := broadcastInDim S1024x1024 ![0, 1] bcast_S1x1024_S1024x1024_0_1 main_v2
  let main_v5 : IVec S1024x1024 1 := cmpi .ne main_v3 main_v4
  let main_v6 : IVec S1024x1 32 := broadcastInDim S1024x1 ![0] bcast_S1024_S1024x1_0 main_v0
  let main_v7 : IVec S1x1024 32 := broadcastInDim S1x1024 ![1] bcast_S1024_S1x1024_1 main_v0
  let main_v8 : IVec S1024x1024 32 := broadcastInDim S1024x1024 ![0, 1] bcast_S1024x1_S1024x1024_0_1 main_v6
  let main_v9 : IVec S1024x1024 32 := broadcastInDim S1024x1024 ![0, 1] bcast_S1x1024_S1024x1024_0_1 main_v7
  let main_v10 : IVec S1024x1024 1 := cmpi .eq main_v8 main_v9
  let main_v11 : IVec S1024x1024 1 := ori main_v5 main_v10
  let main_c : IVec S_ 32 := constantI S_ 32 0#32
  let main_v12 : IVec S1024 32 := broadcastInDim S1024 ![] bcast_S_S1024 main_c
  let main_v13 : IVec S1024 1 := cmpi .sge main_arg5 main_v12
  let main_c_0 : IVec S_ 32 := constantI S_ 32 1024#32
  let main_v14 : IVec S1024 32 := broadcastInDim S1024 ![] bcast_S_S1024 main_c_0
  let main_v15 : IVec S1024 1 := cmpi .slt main_arg5 main_v14
  let main_v16 : IVec S1024 1 := andi main_v13 main_v15
  let main_c_1 : IVec S_ 1 := constantI S_ 1 1#1
  let main_v17 : IVec S_ 1 := (fun x v => Host.reduce IntOp.andi x v reducesTo_S1024_S_d0 h_S_) main_v16 main_c_1
  let main_c_2 : IVec S_ 1 := constantI S_ 1 1#1
  let main_v18 : IVec S_ 1 := (fun x v => Host.reduce IntOp.andi x v reducesTo_S1024x1024_S_d0_1 h_S_) main_v11 main_c_2
  let main_v19 : IVec S_ 1 := andi main_v17 main_v18
  main_v19
-- ==== Kernel.lean ====
abbrev S8192x1024 : Shape := ⟨2, ![8192, 1024]⟩
abbrev S512x2048 : Shape := ⟨2, ![512, 2048]⟩
abbrev S2048 : Shape := ⟨1, ![2048]⟩
abbrev S2048x1024 : Shape := ⟨2, ![2048, 1024]⟩
abbrev S1024 : Shape := ⟨1, ![1024]⟩
abbrev S1024x1 : Shape := ⟨2, ![1024, 1]⟩
abbrev S1x1024 : Shape := ⟨2, ![1, 1024]⟩
abbrev S1x2048 : Shape := ⟨2, ![1, 2048]⟩
abbrev S8192x1 : Shape := ⟨2, ![8192, 1]⟩
abbrev S8192 : Shape := ⟨1, ![8192]⟩
abbrev S1024x1024 : Shape := ⟨2, ![1024, 1024]⟩
abbrev S1024x512 : Shape := ⟨2, ![1024, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S512x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S1024, .i32⟩
  | .hbm, ⟨6, _⟩ => ⟨S1024x1, .i32⟩
  | .hbm, ⟨7, _⟩ => ⟨S1x1024, .i32⟩
  | .hbm, ⟨8, _⟩ => ⟨S1x2048, .f32⟩
  | .hbm, ⟨9, _⟩ => ⟨S1x1024, .f32⟩
  | .hbm, ⟨10, _⟩ => ⟨S8192x1024, .f32⟩
  | .hbm, ⟨11, _⟩ => ⟨S8192x1, .f32⟩
  | .hbm, ⟨12, _⟩ => ⟨S8192, .f32⟩
  | .local _ .vmem, ⟨0, _⟩ => ⟨S1024x1024, .f32⟩
  | .local _ .vmem, ⟨1, _⟩ => ⟨S1024x1024, .f32⟩
  | .local _ .vmem, ⟨2, _⟩ => ⟨S512x2048, .f32⟩
  | .local _ .vmem, ⟨3, _⟩ => ⟨S1x2048, .f32⟩
  | .local _ .vmem, ⟨4, _⟩ => ⟨S2048x1024, .f32⟩
  | .local _ .vmem, ⟨5, _⟩ => ⟨S1x1024, .f32⟩
  | .local _ .vmem, ⟨6, _⟩ => ⟨S1024x1, .i32⟩
  | .local _ .vmem, ⟨7, _⟩ => ⟨S1x1024, .i32⟩
  | .local _ .vmem, ⟨8, _⟩ => ⟨S1024x1024, .f32⟩
  | .local _ .vmem, ⟨9, _⟩ => ⟨S1024x1024, .f32⟩
  | .local _ .vmem, ⟨10, _⟩ => ⟨S1024x1, .f32⟩
  | .local _ .vmem, ⟨11, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_v2_0 : Ref sig .tc := ⟨.hbm, 10, rfl⟩
abbrev main_call0_v2_1 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8192x1024 : Shape := ⟨2, ![8192, 1024]⟩
abbrev S512x2048 : Shape := ⟨2, ![512, 2048]⟩
abbrev S2048 : Shape := ⟨1, ![2048]⟩
abbrev S2048x1024 : Shape := ⟨2, ![2048, 1024]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S8192x512 : Shape := ⟨2, ![8192, 512]⟩
abbrev S8192x2048 : Shape := ⟨2, ![8192, 2048]⟩
abbrev S1x2048 : Shape := ⟨2, ![1, 2048]⟩
abbrev S1x1024 : Shape := ⟨2, ![1, 1024]⟩
abbrev S8192 : Shape := ⟨1, ![8192]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x2048, .f32⟩
  | .hbm, ⟨2, _⟩ => ⟨S2048, .f32⟩
  | .hbm, ⟨3, _⟩ => ⟨S2048x1024, .f32⟩
  | .hbm, ⟨4, _⟩ => ⟨S1024, .f32⟩
  | .hbm, ⟨5, _⟩ => ⟨S1024, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1, .i32⟩
  | .hbm, ⟨18, _⟩ => ⟨S_, .i32⟩
  | .hbm, ⟨19, _⟩ => ⟨S1024x1, .i32⟩
  | .hbm, ⟨20, _⟩ => ⟨S1024x1, .i1⟩
  | .hbm, ⟨21, _⟩ => ⟨S1x1, .i32⟩
  | .hbm, ⟨22, _⟩ => ⟨S1024x1, .i32⟩
  | .hbm, ⟨23, _⟩ => ⟨S1024x1, .i1⟩
  | .hbm, ⟨24, _⟩ => ⟨S1024x1, .i1⟩
  | .hbm, ⟨25, _⟩ => ⟨S_, .i1⟩
  | .hbm, ⟨26, _⟩ => ⟨S1024, .i1⟩
  | .hbm, ⟨27, _⟩ => ⟨S8192x1024, .f32⟩
  | .hbm, ⟨28, _⟩ => ⟨S8192x1024, .i1⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x512, .f32⟩
  | .hbm, ⟨33, _⟩ => ⟨S8192x512, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S_, .i32⟩
  | .hbm, ⟨53, _⟩ => ⟨S1024, .i32⟩
  | .hbm, ⟨54, _⟩ => ⟨S1024, .i1⟩
  | .hbm, ⟨55, _⟩ => ⟨S_, .i32⟩
  | .hbm, ⟨56, _⟩ => ⟨S1024, .i32⟩
  | .hbm, ⟨57, _⟩ => ⟨S1024, .i32⟩
  | .hbm, ⟨58, _⟩ => ⟨S1024, .i32⟩
  | .hbm, ⟨59, _⟩ => ⟨S1024x1, .i32⟩
  | .hbm, ⟨60, _⟩ => ⟨S1, .i32⟩
  | .hbm, ⟨61, _⟩ => ⟨S_, .i32⟩
  | .hbm, ⟨62, _⟩ => ⟨S1024x1, .i32⟩
  | .hbm, ⟨63, _⟩ => ⟨S1024x1, .i1⟩
  | .hbm, ⟨64, _⟩ => ⟨S1x1, .i32⟩
  | .hbm, ⟨65, _⟩ => ⟨S1024x1, .i32⟩
  | .hbm, ⟨66, _⟩ => ⟨S1024x1, .i1⟩
  | .hbm, ⟨67, _⟩ => ⟨S1024x1, .i1⟩
  | .hbm, ⟨68, _⟩ => ⟨S_, .i1⟩
  | .hbm, ⟨69, _⟩ => ⟨S1024, .i1⟩
  | .hbm, ⟨70, _⟩ => ⟨S8192x1024, .f32⟩
  | .hbm, ⟨71, _⟩ => ⟨S8192x1024, .i1⟩
  | .hbm, ⟨72, _⟩ => ⟨S_, .f32⟩
  | .hbm, ⟨73, _⟩ => ⟨S8192x1024, .f32⟩
  | .hbm, ⟨74, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1_0 : Ref sig .tc := ⟨.hbm, 7, rfl⟩
abbrev main_v0 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_v14 : Ref sig .tc := ⟨.hbm, 28, rfl⟩
abbrev main_call1_cst : Ref sig .tc := ⟨.hbm, 29, rfl⟩
abbrev main_call1_v15 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst : Ref sig .tc := ⟨.hbm, 50, rfl⟩
abbrev main_v20 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v21 : Ref sig .tc := ⟨.hbm, 74, rfl⟩

abbrev nD : Nat := 1
abbrev τ : Topo := Topo.v7x

variable {F : FTy → Type} [FloatOps F]
-- ==== Proof.Perm.lean ====
module

public import proofs.«01_k».proof.Pre_is_permutation
public import Idealize.ShloMosaic.Lib.Pointwise
public import Idealize.ShloMosaic.Lib.ReduceAll
public import Idealize.ShloMosaic.Lib.Tactic.WordOmega

/-! The precondition in plain terms: the words of `perm` are the values of a permutation of 0 .. 1023. -/

@[expose] public section

set_option maxRecDepth 16384

namespace Cert.Flow

open Idealize.ShloMosaic

/-- The words `p` list the values of the permutation `σ`. -/
def Lists (p : IVec ⟨1, ![1024]⟩ 32) (σ : Equiv.Perm (Fin 1024)) : Prop :=
  ∀ i : Fin 1024, p (ix1 i) = BitVec.ofNat 32 (σ i).val

/-- Where the precondition's program answers true, the words of `perm` list the values of some permutation. -/
theorem exists_lists [Cert.Pre_is_permutation.Facts] {F : FTy → Type} [FloatOps F]
    (a0 : FVec F ⟨2, ![8192, 1024]⟩ .f32) (a1 : FVec F ⟨2, ![512, 2048]⟩ .f32) (a2 : FVec F ⟨1, ![2048]⟩ .f32)
    (a3 : FVec F ⟨2, ![2048, 1024]⟩ .f32) (a4 : FVec F ⟨1, ![1024]⟩ .f32) (p : IVec ⟨1, ![1024]⟩ 32)
    (h : Cert.Pre_is_permutation.fn a0 a1 a2 a3 a4 p = fun _ => 1#1) : ∃ σ : Equiv.Perm (Fin 1024), Lists p σ := by
  have h0 := congrFun h (fun a => a.elim0)
  unfold Cert.Pre_is_permutation.fn at h0
  obtain ⟨hr, hd⟩ := IntOp.andi_eq_one.1 h0
  haveI : Subsingleton Cert.Pre_is_permutation.S_.Idx := ⟨fun a b => funext fun k => k.elim0⟩
  have hr' := Host.reduce_andi_all _ _ _ _ _ hr
  have hd' := Host.reduce_andi_all _ _ _ _ _ hd
  have hlt : ∀ i : Fin 1024, (p (ix1 i)).toNat < 1024 := fun i => by
    have := hr' (ix1 i)
    pointwise at this
    clear h h0 hr hd hr' hd'
    word_omega
  have hinj : ∀ i j : Fin 1024, p (ix1 i) = p (ix1 j) → i = j := fun i j e => by
    have := hd' (ix2 i j)
    pointwise at this
    rw [WordCmp.cmpi_ne_eq, decide_eq_false (not_not.2 e), WordCmp.cmpi_eq_eq] at this
    by_contra hij
    rw [decide_eq_false fun e' => hij (Fin.ext (by
      have := congrArg BitVec.toNat e'
      rwa [BitVec.toNat_ofNat, BitVec.toNat_ofNat, Nat.mod_eq_of_lt (by omega), Nat.mod_eq_of_lt (by omega)] at this))] at this
    exact absurd this (by decide)
  have hf : Function.Injective (fun i : Fin 1024 => (⟨(p (ix1 i)).toNat, hlt i⟩ : Fin 1024)) := fun i j e =>
    hinj i j (BitVec.eq_of_toNat_eq (congrArg (fun v : Fin 1024 => v.val) e))
  refine ⟨Equiv.ofBijective _ (Finite.injective_iff_bijective.1 hf), fun i => ?_⟩
  exact BitVec.eq_of_toNat_eq (by
    show (p (ix1 i)).toNat = (BitVec.ofNat 32 (p (ix1 i)).toNat).toNat
    rw [BitVec.toNat_ofNat, Nat.mod_eq_of_lt (p (ix1 i)).isLt])

end Cert.Flow

end
-- ==== Proof.Spec.lean ====
module

public import Idealize.ShloMosaic.Lib.Pointwise

/-! The coupling layer's mathematics on plain index functions, and the sums with a one-hot factor. -/

@[expose] public section

set_option maxRecDepth 16384

noncomputable section

namespace Cert.Flow

open Idealize.ShloMosaic

/-- The conditioner network's output `c` for one row `u` of the first half. -/
def net (u : Fin 512 → EReal) (w1 : FVec Ideal ⟨2, ![512, 2048]⟩ .f32) (b1 : Fin 2048 → EReal)
    (w2 : FVec Ideal ⟨2, ![2048, 1024]⟩ .f32) (b2 : Fin 1024 → EReal) (c : Fin 1024) : EReal :=
  (∑ k : Fin 2048, Ideal.tanh ((∑ i : Fin 512, u i * w1 (ix2 i k)) + b1 k) * w2 (ix2 k c)) + b2 c

/-- The first half of a row after its columns are permuted. -/
def firstHalf (σ : Equiv.Perm (Fin 1024)) (row : Fin 1024 → EReal) (i : Fin 512) : EReal := row (σ.symm ⟨i.val, by omega⟩)

/-- Entry `c` of a row after the coupling, the columns back in their own order: a column of the first half is kept,
    one of the second half is scaled and shifted by the network's outputs `n`. -/
def coupled (σ : Equiv.Perm (Fin 1024)) (row n : Fin 1024 → EReal) (c : Fin 1024) : EReal :=
  if (σ c).val < 512 then row c else row c * Ideal.exp (Ideal.tanh (n ⟨(σ c).val - 512, by omega⟩)) + n (σ c)

/-- The row's log-determinant: the sum of the log-scales. -/
def logDet (n : Fin 1024 → EReal) : EReal := ∑ j : Fin 512, Ideal.tanh (n ⟨j.val, by omega⟩)

/-- A sum of products with the indicator of one place is the other factor at that place. -/
theorem sum_mul_single {n : Nat} (f : Fin n → EReal) (P : Fin n → Prop) [DecidablePred P] (i : Fin n) (hP : ∀ k, P k ↔ k = i) :
    ∑ k : Fin n, f k * (if P k then 1 else 0) = f i := by
  rw [Finset.sum_eq_single i (fun k _ hk => by rw [if_neg fun h => hk ((hP k).1 h), mul_zero])
    (fun h => absurd (Finset.mem_univ i) h), if_pos ((hP i).2 rfl), mul_one]

/-- A sum of products with indicators of places that are never met is zero. -/
theorem sum_mul_none {n : Nat} (f : Fin n → EReal) (P : Fin n → Prop) [DecidablePred P] (hP : ∀ k, ¬ P k) :
    ∑ k : Fin n, f k * (if P k then 1 else 0) = 0 :=
  Finset.sum_eq_zero fun k _ => by rw [if_neg (hP k), mul_zero]

end Cert.Flow

end

end
-- ==== Proof.Block.lean ====
module

public import proofs.«01_k».proof.Proof.Perm
public import proofs.«01_k».proof.Proof.Spec
public import proofs.«01_k».proof.Proof.Gen.KernelIdeal.Skeleton

/-! What one block of the kernel computes, element by element. -/

@[expose] public section

set_option maxRecDepth 16384

noncomputable section

namespace Cert.Flow

open Cert.KernelIdeal Cert.KernelIdeal.Gen Idealize.ShloMosaic

variable (pc : Vec Ideal S1024x1 .i32) (pr : Vec Ideal S1x1024 .i32) (w1 : Vec Ideal S512x2048 .f32) (w2 : Vec Ideal S2048x1024 .f32)
  (b1 : Vec Ideal S1x2048 .f32) (b2 : Vec Ideal S1x1024 .f32) (x : Vec Ideal S512x1024 .f32)

/-- A comparison bit, widened and converted to a float, is the indicator of the comparison. -/
theorem sitofp_bit (P : Prop) [Decidable P] :
    FloatOps.sitofp (F := Ideal) .f32 (BitVec.setWidth 32 (BitVec.ofBool (decide P))) = if P then 1 else 0 := by
  by_cases h : P
  · rw [decide_eq_true h, if_pos h]
    show (((1 : Int) : ℝ) : EReal) = 1
    simp
  · rw [decide_eq_false h, if_neg h]
    show (((0 : Int) : ℝ) : EReal) = 0
    simp

/-- Two words of numbers below 2^32 are equal when the numbers are. -/
theorem ofNat_eq_iff {a b : Nat} (ha : a < 2 ^ 32) (hb : b < 2 ^ 32) : BitVec.ofNat 32 a = BitVec.ofNat 32 b ↔ a = b :=
  ⟨fun e => by
    have := congrArg BitVec.toNat e
    rwa [BitVec.toNat_ofNat, BitVec.toNat_ofNat, Nat.mod_eq_of_lt ha, Nat.mod_eq_of_lt hb] at this, fun e => by rw [e]⟩

/-- The gather's one-hot matrix: row `i` marks the column that its word names. -/
theorem pay6_apply (i : Fin 1024) (j : Fin 512) (k : Fin 1024) (h : pc (ix2 i (0 : Fin 1)) = BitVec.ofNat 32 k.val) :
    k0_pay6 (F := Ideal) pc (ix2 i j) = if k.val = j.val then 1 else 0 := by
  unfold k0_pay6
  pointwise
  rw [h, WordCmp.cmpi_eq_eq, sitofp_bit]
  exact if_congr (ofNat_eq_iff (by omega) (by omega)) rfl rfl

/-- The scatter's one-hot matrix: column `c` marks the row that its word names in the second half. -/
theorem pay7_apply (j : Fin 512) (c : Fin 1024) (k : Fin 1024) (h : pr (ix2 (0 : Fin 1) c) = BitVec.ofNat 32 k.val) :
    k0_pay7 (F := Ideal) pr (ix2 j c) = if k.val = j.val + 512 then 1 else 0 := by
  unfold k0_pay7
  pointwise
  rw [h, WordCmp.cmpi_eq_eq, sitofp_bit]
  have e : IntOp.addi (BitVec.ofNat 32 j.val) 512#32 = BitVec.ofNat 32 (j.val + 512) := (BitVec.ofNat_add ..).symm
  rw [e]
  exact if_congr (ofNat_eq_iff (by omega) (by omega)) rfl rfl

variable {pc pr} (σ : Equiv.Perm (Fin 1024)) (hc : ∀ i, pc (ix2 i (0 : Fin 1)) = BitVec.ofNat 32 (σ i).val)
  (hr : ∀ i, pr (ix2 (0 : Fin 1) i) = BitVec.ofNat 32 (σ i).val)

include hc in
/-- The network's output on the first half that the one-hot product picks. -/
theorem pay10_apply (r : Fin 512) (j : Fin 1024) :
    k0_pay10 (F := Ideal) pc w1 w2 b1 b2 x (ix2 r j)
      = net (firstHalf σ fun c => x (ix2 r c)) w1 (fun k => b1 (ix2 0 k)) w2 (fun k => b2 (ix2 0 k)) j := by
  have e : firstHalf σ (fun c => x (ix2 r c)) = fun i => ∑ c : Fin 1024, x (ix2 r c) * k0_pay6 (F := Ideal) pc (ix2 c i) := by
    funext i
    simp only [fun c => pay6_apply pc c i (σ c) (hc c)]
    rw [sum_mul_single (fun c => x (ix2 r c)) (fun c => (σ c).val = i.val) (σ.symm ⟨i.val, by omega⟩) fun k => ?_]
    · rfl
    · rw [Equiv.eq_symm_apply, Fin.ext_iff]
  rw [e]
  unfold k0_pay10 k0_pay8 k0_pay9 net
  pointwise

include hc hr in
/-- The stored half block of the first result. -/
theorem pay12_apply (r : Fin 512) (c : Fin 1024) :
    k0_pay12 (F := Ideal) pc pr w1 w2 b1 b2 x (ix2 r c)
      = coupled σ (fun c => x (ix2 r c))
          (net (firstHalf σ fun c => x (ix2 r c)) w1 (fun k => b1 (ix2 0 k)) w2 (fun k => b2 (ix2 0 k))) c := by
  unfold k0_pay12 k0_pay11 coupled
  pointwise
  simp only [fun j => pay7_apply pr j c (σ c) (hr c), pay10_apply w1 w2 b1 b2 x σ hc]
  by_cases h : (σ c).val < 512
  · rw [if_pos h, sum_mul_none _ _ fun k => by omega, sum_mul_none _ _ fun k => by omega, add_zero]
    have e0 : Ideal.exp 0 = 1 := by
      show ((Real.exp 0 : ℝ) : EReal) = 1
      rw [Real.exp_zero]; rfl
    rw [e0, mul_one]
  · have h1 : ∀ k : Fin 512, (σ c).val = k.val + 512 ↔ k = ⟨(σ c).val - 512, by omega⟩ := fun k => by
      rw [Fin.ext_iff]; show _ ↔ k.val = (σ c).val - 512; omega
    rw [if_neg h, sum_mul_single _ _ _ h1, sum_mul_single _ _ _ h1]
    have e : ∀ h', (⟨512 + ((σ c).val - 512), h'⟩ : Fin 1024) = σ c := fun h' => Fin.ext (by show 512 + _ = _; omega)
    rw [e]

include hc in
/-- The stored half block of the second result. -/
theorem pay1_apply (r : Fin 512) :
    k0_pay1 (F := Ideal) (k0_pay11 pc w1 w2 b1 b2 x) (ix2 r (0 : Fin 1))
      = logDet (net (firstHalf σ fun c => x (ix2 r c)) w1 (fun k => b1 (ix2 0 k)) w2 (fun k => b2 (ix2 0 k))) := by
  unfold k0_pay1 k0_pay11 logDet
  pointwise
  simp only [pay10_apply w1 w2 b1 b2 x σ hc]

variable (pc pr)

/-- The second half block's first result is the same function of its rows as the first's. -/
theorem pay4_eq : k0_pay4 (F := Ideal) (k0_pay6 pc) (k0_pay7 pr) w1 w2 (k0_pay8 b1) (k0_pay9 b2) x = k0_pay12 pc pr w1 w2 b1 b2 x := rfl

/-- The second half block's second result is the same function of its rows as the first's. -/
theorem pay5_eq : k0_pay5 (F := Ideal) (k0_pay6 pc) w1 w2 (k0_pay8 b1) (k0_pay9 b2) x = k0_pay1 (k0_pay11 pc w1 w2 b1 b2 x) := rfl

end Cert.Flow

end

end
-- ==== Proof.Out.lean ====
module

public import proofs.«01_k».proof.Proof.Block
public import proofs.«01_k».proof.Proof.Gen.KernelIdeal.Frame
public import Idealize.ShloMosaic.Lib.Pipeline.ValueKit

/-! What one grid point leaves in its two output blocks: both halves are the same function of their own rows. -/

@[expose] public section

set_option maxRecDepth 16384

noncomputable section

namespace Cert.Flow

open Cert.KernelIdeal Cert.KernelIdeal.Gen Idealize.ShloMosaic

variable (x0 : Vec Ideal S1024x1024 .f32) (x1 : Vec Ideal S512x2048 .f32) (x2 : Vec Ideal S1x2048 .f32) (x3 : Vec Ideal S2048x1024 .f32)
  (x4 : Vec Ideal S1x1024 .f32) (x5 : Vec Ideal S1024x1 .i32) (x6 : Vec Ideal S1x1024 .i32) (σ : Equiv.Perm (Fin 1024))

/-- The network's output on row `r` of a block. -/
abbrev blockNet (r : Fin 1024) : Fin 1024 → EReal :=
  net (firstHalf σ fun c => x0 (ix2 r c)) x1 (fun k => x2 (ix2 0 k)) x3 (fun k => x4 (ix2 0 k))

/-- The first output's block at an index. -/
theorem out7_apply (hc : ∀ i, x5 (ix2 i (0 : Fin 1)) = BitVec.ofNat 32 (σ i).val)
    (hr : ∀ i, x6 (ix2 (0 : Fin 1) i) = BitVec.ofNat 32 (σ i).val) (r j : Fin 1024) :
    out0_7 (F := Ideal) x0 x1 x2 x3 x4 x5 x6 (ix2 r j)
      = coupled σ (fun c => x0 (ix2 r c)) (blockNet x0 x1 x2 x3 x4 σ r) j := by
  unfold_out out0_7
  simp (disch := decide) only [View.ld_unit_lit', pay4_eq]
  canon_tiles y h
  all_goals
    obtain ⟨r', j', rfl⟩ : ∃ (r' : Fin 512) (j' : Fin 1024), y = ix2 r' j' := ⟨y 0, y 1, by idx_vars y⟩
    obtain rfl : j = j' := Fin.ext h1
    refine (pay12_apply x1 x3 x2 x4 _ σ hc hr r' j).trans ?_
  · have e : ∀ c : Fin 1024, View.ld x0 r0_6 (ix2 r' c) = x0 (ix2 r c) := fun c =>
      View.ld_unit_apply_of x0 _ _ _ _ _ fun a => match a with
        | ⟨0, _⟩ => h0
        | ⟨1, _⟩ => (Nat.zero_add _).symm
    simp only [e]
  · have e : ∀ c : Fin 1024, View.ld x0 r0_5 (ix2 r' c) = x0 (ix2 r c) := fun c =>
      View.ld_unit_apply_of x0 _ _ _ _ _ fun a => match a with
        | ⟨0, _⟩ => h0.trans (Nat.zero_add _).symm
        | ⟨1, _⟩ => (Nat.zero_add _).symm
    simp only [e]

/-- The second output's block at an index. -/
theorem out8_apply (hc : ∀ i, x5 (ix2 i (0 : Fin 1)) = BitVec.ofNat 32 (σ i).val) (r : Fin 1024) :
    out0_8 (F := Ideal) x0 x1 x2 x3 x4 x5 x6 (ix2 r (0 : Fin 1)) = logDet (blockNet x0 x1 x2 x3 x4 σ r) := by
  unfold_out out0_8
  simp (disch := decide) only [View.ld_unit_lit', pay5_eq]
  canon_tiles y h
  all_goals
    obtain ⟨r', rfl⟩ : ∃ (r' : Fin 512), y = ix2 r' (0 : Fin 1) :=
      ⟨y 0, funext fun a => match a with
        | ⟨0, _⟩ => rfl
        | ⟨1, _⟩ => Subsingleton.elim (α := Fin 1) _ _⟩
    refine (pay1_apply x1 x3 x2 x4 _ σ hc r').trans ?_
  · have e : ∀ c : Fin 1024, View.ld x0 r0_6 (ix2 r' c) = x0 (ix2 r c) := fun c =>
      View.ld_unit_apply_of x0 _ _ _ _ _ fun a => match a with
        | ⟨0, _⟩ => h0
        | ⟨1, _⟩ => (Nat.zero_add _).symm
    simp only [e]
  · have e : ∀ c : Fin 1024, View.ld x0 r0_5 (ix2 r' c) = x0 (ix2 r c) := fun c =>
      View.ld_unit_apply_of x0 _ _ _ _ _ fun a => match a with
        | ⟨0, _⟩ => h0.trans (Nat.zero_add _).symm
        | ⟨1, _⟩ => (Nat.zero_add _).symm
    simp only [e]

end Cert.Flow

end

end
-- ==== Proof.Arrays.lean ====
module

public import proofs.«01_k».proof.Proof.Out
public import Idealize.ShloMosaic.Lib.Pipeline.ValueKit
public import Idealize.ShloMosaic.Lib.StableHlo.ReadAt

/-! What the kernel's two result arrays hold after the launch. -/

@[expose] public section

set_option maxRecDepth 16384

noncomputable section

namespace Cert.Flow

open Cert.KernelIdeal Cert.KernelIdeal.Gen Idealize.ShloMosaic Idealize.ShloMosaic.TcCoe
open Idealize.ShloMosaic.Pipeline (Dat)

variable (m : (ℓ : Loc nD τ sig) → Buf (Elt Ideal) ℓ) (c : Dev nD)

/-- The column of words at the launch is the argument, one word per row. -/
theorem V_col (i : Fin 1024) : V m c main_v0 (ix2 i (0 : Fin 1)) = m ((c : Thread nD τ).loc main_arg5) (ix1 i) := by
  unfold V V0
  after_reads_at

/-- The row of words at the launch is the argument. -/
theorem V_row (i : Fin 1024) : V m c main_v1 (ix2 (0 : Fin 1) i) = m ((c : Thread nD τ).loc main_arg5) (ix1 i) := by
  unfold V V0
  after_reads_at

/-- The first bias's row at the launch is the argument. -/
theorem V_b1 (i : Fin 2048) : V m c main_call0_v0 (ix2 (0 : Fin 1) i) = m ((c : Thread nD τ).loc main_arg2) (ix1 i) := by
  unfold V V0
  after_reads_at

/-- The second bias's row at the launch is the argument. -/
theorem V_b2 (i : Fin 1024) : V m c main_call0_v1 (ix2 (0 : Fin 1) i) = m ((c : Thread nD τ).loc main_arg4) (ix1 i) := by
  unfold V V0
  after_reads_at

/-- Every point fetches the same whole block of each small array and its own block of rows of the large ones. -/
theorem index_facts : ∀ t : Fin grid0.N, t.val < 8 ∧ win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] := by decide +kernel

/-- The array's row that row `r` of point `t`'s block is. -/
def rowOf (t : Fin cfg0.N) (r : Fin 1024) : Fin 8192 := ⟨t.val * 1024 + r.val, by have := (index_facts t).1; omega⟩

/-- Point `t`'s block of the input holds its own rows. -/
theorem iblk0 (t : Fin cfg0.N) (r j : Fin 1024) :
    iblk m c 0 t (ix2 r j) = m ((c : Thread nD τ).loc main_arg0) (ix2 (rowOf t r) j) := by
  obtain ⟨-, e0, -⟩ := index_facts t
  have e : ((cfg0.win 0).blk t).view.emb (ix2 r j) = ix2 (rowOf t r) j := by
    blk_ext [e0, rowOf]
  show V m c main_arg0 _ = _
  rw [V_main_arg0]
  exact congrArg _ e

/-- Window 1's block is its whole array at every point. -/
theorem iblk1 (t : Fin cfg0.N) : iblk m c 1 t = V m c main_arg1 := by
  obtain ⟨-, e0, e1, e2, e3, e4, e5, e6, -⟩ := index_facts t
  funext y
  have e : ((cfg0.win 1).blk t).view.emb y = y := by blk_ext [e1]
  exact congrArg (V m c main_arg1) e

/-- Window 2's block is its whole array at every point. -/
theorem iblk2 (t : Fin cfg0.N) : iblk m c 2 t = V m c main_call0_v0 := by
  obtain ⟨-, e0, e1, e2, e3, e4, e5, e6, -⟩ := index_facts t
  funext y
  have e : ((cfg0.win 2).blk t).view.emb y = y := by blk_ext [e2]
  exact congrArg (V m c main_call0_v0) e

/-- Window 3's block is its whole array at every point. -/
theorem iblk3 (t : Fin cfg0.N) : iblk m c 3 t = V m c main_arg3 := by
  obtain ⟨-, e0, e1, e2, e3, e4, e5, e6, -⟩ := index_facts t
  funext y
  have e : ((cfg0.win 3).blk t).view.emb y = y := by blk_ext [e3]
  exact congrArg (V m c main_arg3) e

/-- Window 4's block is its whole array at every point. -/
theorem iblk4 (t : Fin cfg0.N) : iblk m c 4 t = V m c main_call0_v1 := by
  obtain ⟨-, e0, e1, e2, e3, e4, e5, e6, -⟩ := index_facts t
  funext y
  have e : ((cfg0.win 4).blk t).view.emb y = y := by blk_ext [e4]
  exact congrArg (V m c main_call0_v1) e

/-- Window 5's block is its whole array at every point. -/
theorem iblk5 (t : Fin cfg0.N) : iblk m c 5 t = V m c main_v0 := by
  obtain ⟨-, e0, e1, e2, e3, e4, e5, e6, -⟩ := index_facts t
  funext y
  have e : ((cfg0.win 5).blk t).view.emb y = y := by blk_ext [e5]
  exact congrArg (V m c main_v0) e

/-- Window 6's block is its whole array at every point. -/
theorem iblk6 (t : Fin cfg0.N) : iblk m c 6 t = V m c main_v1 := by
  obtain ⟨-, e0, e1, e2, e3, e4, e5, e6, -⟩ := index_facts t
  funext y
  have e : ((cfg0.win 6).blk t).view.emb y = y := by blk_ext [e6]
  exact congrArg (V m c main_v1) e

/-- The network's output on row `b` of the argument. -/
abbrev rowNet (σ : Equiv.Perm (Fin 1024)) (b : Fin 8192) : Fin 1024 → EReal :=
  net (firstHalf σ fun j => m ((c : Thread nD τ).loc main_arg0) (ix2 b j)) (m ((c : Thread nD τ).loc main_arg1))
    (fun k => m ((c : Thread nD τ).loc main_arg2) (ix1 k)) (m ((c : Thread nD τ).loc main_arg3))
    (fun k => m ((c : Thread nD τ).loc main_arg4) (ix1 k))

/-- A block's row gives the network what the argument's row does. -/
theorem blockNet_eq (σ : Equiv.Perm (Fin 1024)) (t : Fin cfg0.N) (r : Fin 1024) :
    blockNet (iblk m c 0 t) (iblk m c 1 t) (iblk m c 2 t) (iblk m c 3 t) (iblk m c 4 t) σ r = rowNet m c σ (rowOf t r) := by
  unfold blockNet rowNet
  simp only [iblk0]
  rw [iblk1, iblk2, iblk3, iblk4, V_main_arg1, V_main_arg3]
  exact congrArg₂ (fun b1 b2 => net _ _ b1 _ b2) (funext (V_b1 m c)) (funext (V_b2 m c))

variable {m c} {σ : Equiv.Perm (Fin 1024)} (hp : Lists (m ((c : Thread nD τ).loc main_arg5)) σ)
include hp

/-- After the launch the first result array holds the coupled rows. -/
theorem arr7 : (dats m 0 c).arrAt 7 (cfgs 0).N
    = fun i : S8192x1024.Idx => coupled σ (fun j => m ((c : Thread nD τ).loc main_arg0) (ix2 (i 0) j)) (rowNet m c σ (i 0)) (i 1) := by
  refine (dats m 0 c).arrAt_eq_of_covers 7 _ (by decide +kernel) fun t hf y => ?_
  blk_simp
  rw [after0_7]
  obtain ⟨r, j, rfl⟩ : ∃ r j : Fin 1024, y = ix2 r j := ⟨y 0, y 1, by idx_vars y⟩
  obtain ⟨-, -, -, -, -, -, -, -, e7, -⟩ := index_facts t
  have e : ((cfg0.win 7).blk t).view.emb (ix2 r j) = ix2 (rowOf t r) j := by
    blk_ext [e7, rowOf]
  refine (out7_apply _ _ _ _ _ _ _ σ (fun i => ?_) (fun i => ?_) r j).trans ?_
  · rw [iblk5]; exact (V_col m c i).trans (hp i)
  · rw [iblk6]; exact (V_row m c i).trans (hp i)
  · rw [blockNet_eq]
    simp only [iblk0]
    rw [e]
    rfl

/-- After the launch the second result array holds the rows' log-determinants. -/
theorem arr8 : (dats m 0 c).arrAt 8 (cfgs 0).N = fun i : S8192x1.Idx => logDet (rowNet m c σ (i 0)) := by
  refine (dats m 0 c).arrAt_eq_of_covers 8 _ (by decide +kernel) fun t hf y => ?_
  blk_simp
  rw [after0_8]
  obtain ⟨r, rfl⟩ : ∃ r : Fin 1024, y = ix2 r (0 : Fin 1) := ⟨y 0, funext fun a => match a with
    | ⟨0, _⟩ => rfl
    | ⟨1, _⟩ => Subsingleton.elim (α := Fin 1) _ _⟩
  obtain ⟨-, -, -, -, -, -, -, -, -, e8⟩ := index_facts t
  have e : ((cfg0.win 8).blk t).view.emb (ix2 r (0 : Fin 1)) = ix2 (rowOf t r) (0 : Fin 1) := by
    blk_ext [e8, rowOf]
  refine (out8_apply _ _ _ _ _ _ _ σ (fun i => ?_) r).trans ?_
  · rw [iblk5]; exact (V_col m c i).trans (hp i)
  · rw [blockNet_eq, e]
    rfl

end Cert.Flow

end

end
-- ==== Proof.Sort.lean ====
module

public import proofs.«01_k».proof.Proof.Perm
public import Idealize.ShloMosaic.Lib.SortFacts

/-! The positions that a sort of a permutation's words carries along are the inverse permutation. -/

@[expose] public section

set_option maxRecDepth 16384

namespace Cert.Flow

open Idealize.ShloMosaic

/-- A strictly increasing self-map of `Fin n` is the identity. -/
theorem strictMono_self {n : Nat} (f : Fin n → Fin n) (h : StrictMono f) (i : Fin n) : f i = i := by
  exact le_antisymm h.apply_le h.le_apply

/-- A sort of two rank-1 arrays by `cmp`: the second array's entry `j` comes from the place that the sorting
    permutation names. -/
theorem sort2_snd {n : Nat} {α β : Type} (cmp : α × β → α × β → BitVec 1) (x : (⟨1, ![n]⟩ : Shape).Idx → α)
    (y : (⟨1, ![n]⟩ : Shape).Idx → β) (j : Fin n) :
    (Host.sort2 ⟨1, ![n]⟩ 0 cmp x y).2 (ix1 j)
      = y (ix1 (sortedFrom (fun k k' => cmp (x (ix1 k), y (ix1 k)) (x (ix1 k'), y (ix1 k')) == 1#1) j)) := by
  have al : ∀ k : Fin n, Shape.Idx.along (s := ⟨1, ![n]⟩) (ix1 j) 0 k = ix1 k := fun k => by
    funext a; obtain rfl : a = 0 := Subsingleton.elim _ _; exact Function.update_self ..
  have hd : 0 < (⟨1, ![n]⟩ : Shape).rank := Nat.one_pos
  unfold Host.sort2
  rw [dif_pos hd]
  have hB : (fun k k' : Fin n => cmp (x (Shape.Idx.along (s := ⟨1, ![n]⟩) (ix1 j) 0 k), y (Shape.Idx.along (s := ⟨1, ![n]⟩) (ix1 j) 0 k))
      (x (Shape.Idx.along (s := ⟨1, ![n]⟩) (ix1 j) 0 k'), y (Shape.Idx.along (s := ⟨1, ![n]⟩) (ix1 j) 0 k')) == 1#1)
      = fun k k' => cmp (x (ix1 k), y (ix1 k)) (x (ix1 k'), y (ix1 k')) == 1#1 := by
    funext k k'; rw [al, al]
  rw [← hB]
  exact congrArg y (al _)

/-- Sorting the words of a permutation by the signed order puts at place `j` the position whose word is `j`. -/
theorem sort_perm (p : IVec ⟨1, ![1024]⟩ 32) (σ : Equiv.Perm (Fin 1024)) (hp : Lists p σ)
    (cmp : BitVec 32 × BitVec 32 → BitVec 32 × BitVec 32 → BitVec 1)
    (hcmp : ∀ a b, cmp a b = IntOp.cmpi .slt a.1 b.1) (y : IVec ⟨1, ![1024]⟩ 32) (j : Fin 1024) :
    (Host.sort2 ⟨1, ![1024]⟩ 0 cmp p y).2 (ix1 j) = y (ix1 (σ.symm j)) := by
  have key : ∀ k k' : Fin 1024, (cmp (p (ix1 k), y (ix1 k)) (p (ix1 k'), y (ix1 k')) = 1#1) ↔ σ k < σ k' := fun k k' => by
    rw [hcmp]
    show IntOp.cmpi .slt (p (ix1 k)) (p (ix1 k')) = 1#1 ↔ _
    rw [hp k, hp k', WordCmp.cmpi_slt_ofNat (by omega) (by omega)]
    by_cases hk : σ k < σ k'
    · simp [hk, Fin.lt_def.1 hk]
    · simp [hk, fun h => hk (Fin.lt_def.2 h)]
  let B : Fin 1024 → Fin 1024 → Bool := fun k k' => cmp (p (ix1 k), y (ix1 k)) (p (ix1 k'), y (ix1 k')) == 1#1
  have hB : ∀ k k', B k k' = true ↔ σ k < σ k' := fun k k' => by rw [← key]; exact beq_iff_eq
  have hmono : StrictMono fun k => σ (sortedFrom B k) := fun k k' hk => by
    have h1 := sortedFrom_noInversion B B (fun a b h => by
        rw [Bool.eq_false_iff]; intro h'; exact absurd ((hB a b).1 h) (not_lt.2 ((hB b a).1 h').le)) (fun _ _ h => h)
      (fun a b c h h' => by
        rw [Bool.eq_false_iff, ne_eq, hB] at *; omega) k k' hk
    rw [Bool.eq_false_iff, ne_eq, hB, not_lt] at h1
    refine lt_of_le_of_ne h1 fun e => hk.ne ?_
    exact sortedFrom_injective B (σ.injective e)
  have hs : sortedFrom B j = σ.symm j := by
    rw [Equiv.eq_symm_apply]; exact strictMono_self _ hmono j
  have e : (Host.sort2 ⟨1, ![1024]⟩ 0 cmp p y).2 (ix1 j) = y (ix1 (sortedFrom B j)) := sort2_snd cmp p y j
  rw [e, hs]

end Cert.Flow

end
-- ==== Proof.Take.lean ====
module

public import proofs.«01_k».proof.Proof.Sort
public import proofs.«01_k».proof.Proof.Gen.ReferenceIdeal

/-! The reference's column take, read at an index: its index words lie in range, so no column is replaced by fill. -/

@[expose] public section

set_option maxRecDepth 16384

noncomputable section

namespace Cert.Flow

open Cert.ReferenceIdeal Cert.ReferenceIdeal.Gen Idealize.ShloMosaic

/-- The start indices of a take: negative words count from the end, and each word stands in its own row. -/
def startCol (q : IVec S1024 32) : IVec S1024x1 32 :=
  broadcastInDim S1024x1 ![0] bcast_S1024_S1024x1_0
    (select (cmpi .slt q (broadcastInDim S1024 ![] bcast_S_S1024 (constantI S_ 32 0#32)))
      (addi q (broadcastInDim S1024 ![] bcast_S_S1024 (constantI S_ 32 1024#32))) q)

/-- Which words of a take name a column. -/
def inRange (q : IVec S1024 32) : IVec S1024 1 :=
  Host.reduce IntOp.andi
    (andi (cmpi .sge (startCol q) (broadcastInDim S1024x1 ![] bcast_S_S1024x1 (constantI S_ 32 0#32)))
      (cmpi .sle (startCol q) (broadcastInDim S1024x1 ![0, 1] bcast_S1x1_S1024x1_0_1
        (broadcastInDim S1x1 ![1] bcast_S1_S1x1_1 (constantI S1 32 1023#32)))))
    (constantI S_ 1 1#1) reducesTo_S1024x1_S1024_d1 h_S_

/-- The columns of `x` that the words `q` name, fill where a word names none. -/
def takeCols (x : FVec Ideal S8192x1024 .f32) (q : IVec S1024 32) : FVec Ideal S8192x1024 .f32 :=
  select (broadcastInDim S8192x1024 ![1] bcast_S1024_S8192x1024_1 (inRange q))
    (Host.gather gather_S8192x1024_S1024x1_S8192x1024_0_1_n_n_1_1_81921 x (startCol q))
    (broadcastInDim S8192x1024 ![] bcast_S_S8192x1024 (constant S_ .f32 0x7FC00000#32))

/-- A take's start index at place `j` is the word itself where the word is one of 0 .. 1023. -/
theorem startCol_apply (q : IVec S1024 32) (j : Fin 1024) (k : Fin 1024) (h : q (ix1 j) = BitVec.ofNat 32 k.val) :
    startCol q (ix2 j (0 : Fin 1)) = BitVec.ofNat 32 k.val := by
  unfold startCol
  pointwise
  rw [h, WordCmp.cmpi_slt_ofNat (by omega) (by omega)]
  rfl

/-- The gather down whole columns: where the start index of place `j` is `k`, column `j` of the result is column `k`. -/
theorem gather_cols_apply (x : FVec Ideal S8192x1024 .f32) (idx : IVec S1024x1 32) (b : Fin 8192) (j k : Fin 1024)
    (h : idx (ix2 j (0 : Fin 1)) = BitVec.ofNat 32 k.val) :
    Host.gather gather_S8192x1024_S1024x1_S8192x1024_0_1_n_n_1_1_81921 x idx (ix2 b j) = x (ix2 b k) := by
  unfold Host.gather
  refine congrArg x (funext fun a => Fin.ext ?_)
  let d := gather_S8192x1024_S1024x1_S8192x1024_0_1_n_n_1_1_81921
  show d.start (ix2 b j) idx a + d.batchCoord (ix2 b j) a + d.offCoord (ix2 b j) a = _
  rw [d.batchCoord_eq_zero _ _ List.not_mem_nil]
  match a with
  | ⟨0, _⟩ =>
    show d.start (ix2 b j) idx 0 + 0 + d.offCoord (ix2 b j) 0 = b.val
    rw [show d.start (ix2 b j) idx 0 = 0 from rfl]
    unfold GatherDims.offCoord
    rw [dif_pos (by decide)]
    have ho : ∀ e ∈ d.offsetDims, (ix2 b j e).val = b.val := fun e he => by
      rw [show e = (0 : Fin 2) from List.mem_singleton.1 he]; rfl
    rw [ho _ (List.getElem_mem _), Nat.zero_add]
  | ⟨1, _⟩ =>
    show d.start (ix2 b j) idx 1 + 0 + d.offCoord (ix2 b j) 1 = k.val
    rw [d.offCoord_eq_zero _ _ (fun h => ((GatherDims.mem_sKept _ _).mp h).1 (List.mem_singleton.mpr rfl))]
    unfold GatherDims.start
    rw [dif_pos (show (1 : Fin 2) ∈ d.startIndexMap from List.mem_singleton.mpr rfl)]
    have hsi : d.siIdx (ix2 b j) ⟨List.idxOf (1 : Fin 2) d.startIndexMap, List.idxOf_lt_length_iff.2 (List.mem_singleton.mpr rfl)⟩
        = ix2 j (0 : Fin 1) := by
      funext e; refine Fin.ext ?_
      match e with
      | ⟨0, _⟩ => rfl
      | ⟨1, _⟩ => rfl
    have hk : (BitVec.ofNat 32 k.val).toNat = k.val := by
      rw [BitVec.toNat_ofNat]; exact Nat.mod_eq_of_lt (by omega)
    rw [hsi, h, WordCmp.toInt_eq_toNat_of_lt_half (by rw [hk]; omega), hk, Int.toNat_natCast]
    show min k.val (1024 - 1) + 0 + 0 = k.val
    omega

/-- A take by words that all name columns: column `j` of the result is the column that word `j` names. -/
theorem takeCols_apply (x : FVec Ideal S8192x1024 .f32) (q : IVec S1024 32) (κ : Fin 1024 → Fin 1024)
    (hq : ∀ j, q (ix1 j) = BitVec.ofNat 32 (κ j).val) (b : Fin 8192) (j : Fin 1024) :
    takeCols x q (ix2 b j) = x (ix2 b (κ j)) := by
  have hr : inRange q (ix1 j) = 1#1 := by
    unfold inRange
    refine Host.reduce_andi_one _ _ _ _ _ rfl fun i => ?_
    idx_vars i
    obtain rfl : i1 = 0 := Subsingleton.elim _ _
    pointwise
    rw [startCol_apply q i0 (κ i0) (hq i0), WordCmp.cmpi_sge_ofNat (by omega) (by omega),
      WordCmp.cmpi_sle_ofNat (by omega) (by omega), decide_eq_true (Nat.zero_le _), decide_eq_true (by omega)]
    rfl
  unfold takeCols
  pointwise
  rw [hr, gather_cols_apply x _ b j (κ j) (startCol_apply q j (κ j) (hq j))]
  rfl

end Cert.Flow

end

end
-- ==== Proof.RefValue.lean ====
module

public import proofs.«01_k».proof.Proof.Take
public import proofs.«01_k».proof.Proof.Spec
public import proofs.«01_k».proof.Proof.Gen.ReferenceIdeal.Run

/-! What the reference computes, element by element, for a permutation. -/

@[expose] public section

set_option maxRecDepth 16384

noncomputable section

namespace Cert.Flow

open Cert.ReferenceIdeal Cert.ReferenceIdeal.Gen Idealize.ShloMosaic

/-- The positions that the reference's argsort returns. -/
def argsort (p : IVec S1024 32) : IVec S1024 32 := (Host.sort2 S1024 0 comparator_i32_i32_d0 p (iotaInDim S1024 32 0)).2

/-- The conditioner network's output on the first half `u` of the permuted columns. -/
def refNet (u : FVec Ideal S8192x512 .f32) (w1 : FVec Ideal S512x2048 .f32) (b1 : FVec Ideal S2048 .f32)
    (w2 : FVec Ideal S2048x1024 .f32) (b2 : FVec Ideal S1024 .f32) : FVec Ideal S8192x1024 .f32 :=
  addf (Host.dotGeneral dot_S8192x2048_S2048x1024_S8192x1024_1_0_0_1_n_n none
      (Host.tanh (addf (Host.dotGeneral dot_S8192x512_S512x2048_S8192x2048_1_0_0_1_n_n none u w1)
        (broadcastInDim S8192x2048 ![0, 1] bcast_S1x2048_S8192x2048_0_1 (broadcastInDim S1x2048 ![1] bcast_S2048_S1x2048_1 b1)))) w2)
    (broadcastInDim S8192x1024 ![0, 1] bcast_S1x1024_S8192x1024_0_1 (broadcastInDim S1x1024 ![1] bcast_S1024_S1x1024_1 b2))

/-- The log-scale of the second half. -/
def refScale (n : FVec Ideal S8192x1024 .f32) : FVec Ideal S8192x512 .f32 :=
  Host.tanh (extractStridedSlice S8192x512 ![0, 0] n slices_S8192x1024_S8192x512_0_0)

/-- The two halves side by side after the coupling, over the permuted columns `v` and the network's output `n`. -/
def refJoin (v n : FVec Ideal S8192x1024 .f32) : FVec Ideal S8192x1024 .f32 :=
  concatenate S8192x1024 1 [⟨S8192x512, extractStridedSlice S8192x512 ![0, 0] v slices_S8192x1024_S8192x512_0_0⟩,
    ⟨S8192x512, addf (mulf (extractStridedSlice S8192x512 ![0, 512] v slices_S8192x1024_S8192x512_0_512) (Host.exp (refScale n)))
      (extractStridedSlice S8192x512 ![0, 512] n slices_S8192x1024_S8192x512_0_512)⟩] concatenates_S8192x512_S8192x512_S8192x1024_d1

/-- The permuted columns. -/
abbrev refPerm (x : FVec Ideal S8192x1024 .f32) (p : IVec S1024 32) : FVec Ideal S8192x1024 .f32 := takeCols x (argsort p)

/-- The network's output for the arguments. -/
abbrev refOut (x : FVec Ideal S8192x1024 .f32) (w1 : FVec Ideal S512x2048 .f32) (b1 : FVec Ideal S2048 .f32)
    (w2 : FVec Ideal S2048x1024 .f32) (b2 : FVec Ideal S1024 .f32) (p : IVec S1024 32) : FVec Ideal S8192x1024 .f32 :=
  refNet (extractStridedSlice S8192x512 ![0, 0] (refPerm x p) slices_S8192x1024_S8192x512_0_0) w1 b1 w2 b2

/-- The reference's first result. -/
def refY (x : FVec Ideal S8192x1024 .f32) (w1 : FVec Ideal S512x2048 .f32) (b1 : FVec Ideal S2048 .f32)
    (w2 : FVec Ideal S2048x1024 .f32) (b2 : FVec Ideal S1024 .f32) (p : IVec S1024 32) : FVec Ideal S8192x1024 .f32 :=
  takeCols (refJoin (refPerm x p) (refOut x w1 b1 w2 b2 p)) p

/-- The reference's second result. -/
def refLd (x : FVec Ideal S8192x1024 .f32) (w1 : FVec Ideal S512x2048 .f32) (b1 : FVec Ideal S2048 .f32)
    (w2 : FVec Ideal S2048x1024 .f32) (b2 : FVec Ideal S1024 .f32) (p : IVec S1024 32) : FVec Ideal S8192 .f32 :=
  Host.reduceAdd (refScale (refOut x w1 b1 w2 b2 p)) (constant S_ .f32 0x00000000#32) reducesTo_S8192x512_S8192_d1 h_S_

variable (m : (ℓ : Loc nD τ sig) → Buf (Elt Ideal) ℓ) (c : Dev nD)

open Idealize.ShloMosaic.TcCoe in
/-- The first result's composed term is `refY` of the arguments. -/
theorem res_eq : Cert.ReferenceIdeal.Value.res_main_v21 m c
    = refY (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

variable {x : FVec Ideal S8192x1024 .f32} {w1 : FVec Ideal S512x2048 .f32} {b1 : FVec Ideal S2048 .f32}
    {w2 : FVec Ideal S2048x1024 .f32} {b2 : FVec Ideal S1024 .f32} {p : IVec S1024 32}

/-- The argsort's word at place `j` is the position that the permutation sends to `j`. -/
theorem argsort_apply (σ : Equiv.Perm (Fin 1024)) (hp : Lists p σ) (j : Fin 1024) :
    argsort p (ix1 j) = BitVec.ofNat 32 (σ.symm j).val :=
  (sort_perm p σ hp _ (fun _ _ => rfl) _ j).trans rfl

/-- The permuted columns at an index. -/
theorem refPerm_apply (σ : Equiv.Perm (Fin 1024)) (hp : Lists p σ) (b : Fin 8192) (j : Fin 1024) :
    refPerm x p (ix2 b j) = x (ix2 b (σ.symm j)) :=
  takeCols_apply x _ σ.symm (argsort_apply σ hp) b j

/-- The network's output at an index. -/
theorem refOut_apply (σ : Equiv.Perm (Fin 1024)) (hp : Lists p σ) (b : Fin 8192) (j : Fin 1024) :
    refOut x w1 b1 w2 b2 p (ix2 b j)
      = net (firstHalf σ fun c => x (ix2 b c)) w1 (fun k => b1 (ix1 k)) w2 (fun k => b2 (ix1 k)) j := by
  unfold refOut refNet net firstHalf
  pointwise
  simp only [refPerm_apply σ hp]

/-- The reference's second result at an index. -/
theorem refLd_apply (σ : Equiv.Perm (Fin 1024)) (hp : Lists p σ) (b : Fin 8192) :
    refLd x w1 b1 w2 b2 p (ix1 b)
      = logDet (net (firstHalf σ fun c => x (ix2 b c)) w1 (fun k => b1 (ix1 k)) w2 (fun k => b2 (ix1 k))) := by
  unfold refLd refScale logDet
  pointwise
  simp only [refOut_apply σ hp]

/-- The reference's first result at an index. -/
theorem refY_apply (σ : Equiv.Perm (Fin 1024)) (hp : Lists p σ) (b : Fin 8192) (c : Fin 1024) :
    refY x w1 b1 w2 b2 p (ix2 b c)
      = coupled σ (fun c => x (ix2 b c))
          (net (firstHalf σ fun c => x (ix2 b c)) w1 (fun k => b1 (ix1 k)) w2 (fun k => b2 (ix1 k))) c := by
  unfold refY
  rw [takeCols_apply _ p σ hp b c]
  unfold refJoin refScale coupled
  pointwise
  simp only [refOut_apply σ hp, refPerm_apply σ hp]
  by_cases h : (σ c).val < 512
  · rw [dif_pos h, if_pos h, Equiv.symm_apply_apply]
  · have e : ∀ h', (⟨512 + ((σ c).val - 512), h'⟩ : Fin 1024) = σ c := fun h' => Fin.ext (by show 512 + _ = _; omega)
    rw [dif_neg h, if_neg h, e, Equiv.symm_apply_apply]

end Cert.Flow

end

end
-- ==== Proof.Tail.lean ====
/- What the second result holds at the end of a run: the log-determinant array read as a vector. -/
module

public import proofs.«01_k».proof.Proof.Arrays
public import proofs.«01_k».proof.Proof.RefValue
public import Idealize.ShloMosaic.Lib.Claim

@[expose] public section

set_option maxRecDepth 16384

noncomputable section

namespace Cert.Flow

open Cert.KernelIdeal Cert.KernelIdeal.Gen Idealize.ShloMosaic Idealize.ShloMosaic.TcCoe
open Idealize.ShloMosaic.Pipeline (Dat)

variable (m : (ℓ : Loc nD τ sig) → Buf (Elt Ideal) ℓ) (c : Dev nD)

/-- The host's last operation makes a vector of the second result array's column. -/
theorem tail_read (b : Fin 8192) :
    Pipeline.afterTail₀ cfgs (dats m) 0 (V0 m) [hostOps1] c main_v2_1 (ix1 b)
      = (dats m 0 c).arrAt 8 (cfgs 0).N (ix2 b (0 : Fin 1)) := by
  unfold Pipeline.afterTail₀
  after_reads_at
  exact congrFun (Pipeline.withArrays_arr (cfgs 0).spec (by decide) c (V0 m c) (fun w => (dats m 0 c).arrAt w (cfgs 0).N) 8) _

variable {m c} {σ : Equiv.Perm (Fin 1024)} (hp : Lists (m ((c : Thread nD τ).loc main_arg5)) σ)
include hp

/-- The first result is the reference's at the arguments. -/
theorem first_result : (dats m 0 c).arrAt 7 (cfgs 0).N
    = refY (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [arr7 hp]
  funext y
  obtain ⟨b, j, rfl⟩ : ∃ (b : Fin 8192) (j : Fin 1024), y = ix2 b j := ⟨y 0, y 1, by idx_vars y⟩
  exact (refY_apply σ hp b j).symm

/-- The second result is the reference's at the arguments. -/
theorem second_result : Pipeline.afterTail₀ cfgs (dats m) 0 (V0 m) [hostOps1] c main_v2_1
    = refLd (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext y
  obtain ⟨b, rfl⟩ : ∃ b : Fin 8192, y = ix1 b := ⟨y 0, by idx_vars y⟩
  refine (tail_read m c b).trans ?_
  rw [arr8 hp]
  exact (refLd_apply σ hp b).symm

end Cert.Flow

end

end
-- ==== Proof.lean ====
/- The certificate: the kernel's and the reference's runs, and the equation between their results. The mathematics is in
   the modules under Proof/: Spec (the row function both compute), Perm (what the precondition says), Sort and Take (the
   reference's argsort and column gathers), RefValue (the reference's results), Block and Out (one block of the kernel),
   Arrays and Tail (the kernel's whole results). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_is_permutation
public import proofs.«01_k».proof.Proof.Gen.ReferenceIdeal.Run
public import proofs.«01_k».proof.Proof.Tail
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- At agreeing arguments the kernel's two results are the reference's, on every device. -/
theorem results_agree [Cert.KernelIdeal.Facts] [Cert.ReferenceIdeal.Facts] [Cert.Pre_is_permutation.Facts] :
    Cert.algebraic_KernelIdeal_ReferenceIdeal_pre_is_permutation := by
  intro m g m' g' hpre hagree
  let a := fun (c : Dev Cert.KernelIdeal.nD) b => m ((c.tc : Thread Cert.KernelIdeal.nD Cert.KernelIdeal.τ).loc b)
  refine ⟨fun c => Cert.Flow.refY (a c Cert.KernelIdeal.main_arg0) (a c Cert.KernelIdeal.main_arg1) (a c Cert.KernelIdeal.main_arg2)
      (a c Cert.KernelIdeal.main_arg3) (a c Cert.KernelIdeal.main_arg4) (a c Cert.KernelIdeal.main_arg5),
    fun c => Cert.Flow.refLd (a c Cert.KernelIdeal.main_arg0) (a c Cert.KernelIdeal.main_arg1) (a c Cert.KernelIdeal.main_arg2)
      (a c Cert.KernelIdeal.main_arg3) (a c Cert.KernelIdeal.main_arg4) (a c Cert.KernelIdeal.main_arg5), ?_, ?_⟩
  · refine (θ_run Cert.KernelIdeal.defs _ _).mono (fun r h c => ?_)
      (θ_run_and (Cert.KernelIdeal.Gen.run_main (F := Ideal) m g) (Cert.KernelIdeal.Gen.unchanged (F := Ideal) m g))
    obtain ⟨σ, hp⟩ := Cert.Flow.exists_lists _ _ _ _ _ _ (hpre c)
    exact ⟨((h.1 c).1 7).trans (Cert.Flow.first_result hp),
      ((h.1 c).2 Cert.KernelIdeal.main_v2_1 (Pipeline.mem_restRefs_of Cert.KernelIdeal.main_v2_1 (by decide) (by decide))).trans (Cert.Flow.second_result hp),
      h.2 c⟩
  · refine (θ_run Cert.ReferenceIdeal.defs _ _).mono (fun r h c => ?_) (Cert.ReferenceIdeal.Value.run (F := Ideal) m' g')
    obtain ⟨h0, h1, h2, h3, h4, h5⟩ := hagree c
    let a' := fun b => m' ((c.tc : Thread Cert.ReferenceIdeal.nD Cert.ReferenceIdeal.τ).loc b)
    have e : r.2.mem ((c.tc : Thread Cert.ReferenceIdeal.nD Cert.ReferenceIdeal.τ).loc Cert.ReferenceIdeal.main_v20)
        = Cert.Flow.refLd (a' Cert.ReferenceIdeal.main_arg0) (a' Cert.ReferenceIdeal.main_arg1) (a' Cert.ReferenceIdeal.main_arg2)
            (a' Cert.ReferenceIdeal.main_arg3) (a' Cert.ReferenceIdeal.main_arg4) (a' Cert.ReferenceIdeal.main_arg5) := (h c).2.1
    refine ⟨(h c).1.trans ((Cert.Flow.res_eq m' c).trans ?_), e.trans ?_, (h c).2.2⟩
    · rw [h0, h1, h2, h3, h4, h5]
    · simp only [a', h0, h1, h2, h3, h4, h5, a]

/-- The reference runs, leaves its arguments unchanged, and has no semaphore to leave set. -/
theorem reference_frame [Cert.ReferenceIdeal.Facts] : Cert.quiescent_ReferenceIdeal := fun m g _ =>
  (θ_run Cert.ReferenceIdeal.defs _ _).mono
    (fun r h => ⟨fun c => (h c).2.2, sem_eq_zero_of_no_sems (by decide) r.2⟩) (Cert.ReferenceIdeal.Value.run (F := Ideal) m g)

/-- Every claim holds. -/
theorem claim : Cert.Claim := ⟨Cert.Kernel.Gen.facts, Cert.KernelIdeal.Gen.facts, Cert.ReferenceIdeal.Gen.facts, Cert.Pre_is_permutation.Gen.facts,
  fun m ρ _ => Cert.Kernel.Gen.frame m ρ, fun m ρ _ => Cert.KernelIdeal.Gen.frame m ρ, fun m ρ _ => Cert.KernelIdeal.Gen.frame m ρ,
  reference_frame, fun m g _ => reference_frame m g trivial, trivial, results_agree⟩

end Cert.Proof

end
